-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S16384x1024 : Shape := ⟨2, ![16384, 1024]⟩
abbrev S_ : Shape := ⟨0, ![]⟩
abbrev S1 : Shape := ⟨1, ![1]⟩
abbrev S1024x1024 : Shape := ⟨2, ![1024, 1024]⟩

abbrev nBuf : Space → Nat
  | .hbm => 8
  | .vmem => 4
  | .smem => 2
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S_, .i32⟩
  | .hbm, ⟨3, _⟩ => ⟨S1, .i32⟩
  | .hbm, ⟨4, _⟩ => ⟨S16384x1024, .f32⟩
  | .hbm, ⟨5, _⟩ => ⟨S1, .i32⟩
  | .hbm, ⟨6, _⟩ => ⟨S4x4096x1024, .f32⟩
  | .hbm, ⟨7, _⟩ => ⟨S_, .i32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .smem, ⟨0, _⟩ => ⟨S1, .i32⟩
  | .local _ .smem, ⟨1, _⟩ => ⟨S1, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c14_i32 : BitVec 32 := 14#32
  let v0 : BitVec 32 := Scalar.maxsi arg0 c14_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x4096x1024 : Shape := ⟨3, ![4, 4096, 1024]⟩
abbrev S16384 : Shape := ⟨1, ![16384]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S4x4096, .i1⟩
  | .hbm, ⟨6, _⟩ => ⟨S4x4096x1, .i1⟩
  | .hbm, ⟨7, _⟩ => ⟨S_, .f32⟩
  | .hbm, ⟨8, _⟩ => ⟨S4x4096x1024, .i1⟩
  | .hbm, ⟨9, _⟩ => ⟨S4x4096x1024, .f32⟩
  | .hbm, ⟨10, _⟩ => ⟨S4x4096x1024, .f32⟩
  | .hbm, ⟨11, _⟩ => ⟨S4x4096, .i32⟩
  | .hbm, ⟨12, _⟩ => ⟨S_, .i32⟩
  | .hbm, ⟨13, _⟩ => ⟨S_, .i32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Freeze.Block.lean ====
/- What the body of the kernel computes for one block of 1024 rows: the tests that choose between its branches, each
   decided from the block's number, and the block that each branch stores. -/
module

public import proofs.«01_k».proof.Proof.Gen.KernelIdeal.Skeleton
public import Idealize.ShloMosaic.Lib.Pipeline.Value
public import Idealize.ShloMosaic.Lib.ValueIdxCore
public import Idealize.ShloMosaic.Lib.WordCmp

@[expose] public section

noncomputable section

namespace Cert.KernelIdeal.Freeze

open Idealize.ShloMosaic Idealize.SL.Sem Cert.KernelIdeal.Gen

variable {F : FTy → Type} [FloatOps F]

/-- Block number `n` of the array with its rows below row 14745 of the whole array set to zero. -/
def frozenBlock (n : ℕ) (x : Vec F S1024x1024 .f32) : Vec F S1024x1024 .f32 :=
  fun y => if n * 1024 + (y 0).val < 14745 then Scalar.ofBits .f32 0x00000000#32 else x y

/-! ## The tests on the block's number -/

/-- The body's test for the first block, at which it stores the count. -/
abbrev IsFirst (i : grid0.Coords) : Prop := k0_cond1 i = 1#1

/-- The body's test for a block that ends at or before row `w`. -/
abbrev EndsBefore (i : grid0.Coords) (w : BitVec 32) : Prop :=
  (Scalar.cmpi .ne (Scalar.extui (Scalar.cmpi .sle (Scalar.addi (Scalar.muli (BitVec.ofNat 32 (i 0).val) 1024#32) 1024#32) w)) 0#32) = 1#1

/-- The body's test for a block that starts at or after row `w`. -/
abbrev StartsAfter (i : grid0.Coords) (w : BitVec 32) : Prop :=
  (Scalar.cmpi .ne (Scalar.extui (Scalar.cmpi .sge (Scalar.muli (BitVec.ofNat 32 (i 0).val) 1024#32) w)) 0#32) = 1#1

/-- The body's test for a block that row `w` splits. -/
abbrev Splits (i : grid0.Coords) (w : BitVec 32) : Prop :=
  (Scalar.cmpi .ne (Scalar.extui (Scalar.andi (Scalar.cmpi .slt (Scalar.muli (BitVec.ofNat 32 (i 0).val) 1024#32) w)
    (Scalar.cmpi .sgt (Scalar.addi (Scalar.muli (BitVec.ofNat 32 (i 0).val) 1024#32) 1024#32) w))) 0#32) = 1#1

/-- The first block is block 0. -/
theorem isFirst_iff (i : grid0.Coords) : IsFirst i ↔ (i 0).val = 0 := by
  have h : ∀ n : Fin 16, (Scalar.cmpi .ne (Scalar.extui (Scalar.cmpi .eq (BitVec.ofNat 32 n.val) 0#32)) 0#32) = 1#1 ↔ n.val = 0 := by decide
  exact h (i 0)

/-- The blocks that end at or before row 14745 are blocks 0 to 13. -/
theorem endsBefore_iff (i : grid0.Coords) : EndsBefore i 14745#32 ↔ (i 0).val < 14 := by
  have h : ∀ n : Fin 16, (Scalar.cmpi .ne (Scalar.extui (Scalar.cmpi .sle (Scalar.addi (Scalar.muli (BitVec.ofNat 32 n.val) 1024#32) 1024#32) 14745#32)) 0#32) = 1#1
      ↔ n.val < 14 := by decide
  exact h (i 0)

/-- The block that starts at or after row 14745 is block 15. -/
theorem startsAfter_iff (i : grid0.Coords) : StartsAfter i 14745#32 ↔ 14 < (i 0).val := by
  have h : ∀ n : Fin 16, (Scalar.cmpi .ne (Scalar.extui (Scalar.cmpi .sge (Scalar.muli (BitVec.ofNat 32 n.val) 1024#32) 14745#32)) 0#32) = 1#1
      ↔ 14 < n.val := by decide
  exact h (i 0)

/-- The block that row 14745 splits is block 14. -/
theorem splits_iff (i : grid0.Coords) : Splits i 14745#32 ↔ (i 0).val = 14 := by
  have h : ∀ n : Fin 16, (Scalar.cmpi .ne (Scalar.extui (Scalar.andi (Scalar.cmpi .slt (Scalar.muli (BitVec.ofNat 32 n.val) 1024#32) 14745#32)
      (Scalar.cmpi .sgt (Scalar.addi (Scalar.muli (BitVec.ofNat 32 n.val) 1024#32) 1024#32) 14745#32))) 0#32) = 1#1 ↔ n.val = 14 := by decide
  exact h (i 0)

/-! ## What each branch stores -/

/-- In a block that ends before row 14745 every row is zero, and the body stores zeros. -/
theorem zeros_eq {n : ℕ} (h : n < 14) (x : Vec F S1024x1024 .f32) : k0_pay1 (F := F) = frozenBlock n x := by
  funext y
  have hy : (y 0).val < 1024 := (y 0).isLt
  exact (if_pos (by omega)).symm

/-- In a block that starts after row 14745 every row is kept, and the body stores the block that it read. -/
theorem copy_eq {n : ℕ} (h : 14 < n) (x : Vec F S1024x1024 .f32) : k0_pay2 x = frozenBlock n x := by
  have hs : k0_pay2 x = x := shapeCast_self x _
  funext y
  rw [hs]
  exact (if_neg (by omega)).symm

/-- A row number of the array, formed in 32-bit words, is below 14745 as a word when it is below it as a number. -/
theorem row_test (n r : ℕ) (hn : n < 16) (hr : r < 1024) :
    IntOp.cmpi .slt (IntOp.addi (Scalar.muli (BitVec.ofNat 32 n) 1024#32) (BitVec.ofNat 32 r)) 14745#32
      = BitVec.ofBool (decide (n * 1024 + r < 14745)) := by
  have hm : Scalar.muli (BitVec.ofNat 32 n) 1024#32 = BitVec.ofNat 32 (n * 1024) := WordCmp.muli_ofNat n 1024
  rw [hm, WordCmp.addi_ofNat]
  exact WordCmp.cmpi_slt_ofNat (by omega) (by decide)

/-- In any block the choice, row by row, between zero and the block that the body read. -/
theorem mixed_eq (i : grid0.Coords) (x : Vec F S1024x1024 .f32) : k0_pay3 i 14745#32 x = frozenBlock (i 0).val x := by
  funext y
  have hr := row_test (i 0).val (y 0).val (i 0).isLt (y 0).isLt
  unfold k0_pay3 frozenBlock
  dsimp only
  rw [shapeCast_self, ValueIdx.select_apply, WordCmp.cmpi_at]
  show Scalar.select (IntOp.cmpi .slt (IntOp.addi _ (iota .tc S1024x1024 32 [0] iota_S1024x1024_d0_w32 y)) 14745#32) _ _ = _
  rw [iota_single_apply]
  exact (congrArg (fun b => Scalar.select b _ _) hr).trans (WordCmp.select_decide _ _ _)

end Cert.KernelIdeal.Freeze

end
-- ==== Proof.Freeze.Runs.lean ====
/- One run of the kernel's body, in each of the four cases that the grid meets: the first block, a later block that is
   all zeros, the block that the last frozen row splits, and the block that is kept whole. -/
module

public import proofs.«01_k».proof.Proof.Freeze.Block
public import proofs.«01_k».proof.Proof.Gen.KernelIdeal.Frame
public import Idealize.ShloMosaic.Lib.WholeRead

@[expose] public section

set_option maxRecDepth 16384

noncomputable section

namespace Cert.KernelIdeal.Freeze

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The one-word array that holds the number of frozen rows, 14745. -/
def limit : Vec F S1 .i32 := fun _ => (14745#32 : BitVec 32)

/-- The word that the body loads from a one-word memref, as a function of what the memref's buffer holds. -/
abbrev wordAt (M : Memref sig .tc .smem S1 .i32) (f : M.view.ty.Contents (Elt F)) : BitVec 32 :=
  M.view.readAt (Elt F) (Rect.unit (s := S1) ![0] S1.size inb_S1_S1_0).toLoadRect f (Shape.Idx.first (numel1_S1.symm ▸ Nat.one_pos))

/-- A memref that holds the number of frozen rows loads as 14745. -/
theorem wordAt_limit (M : Memref sig .tc .smem S1 .i32) (hM : M.IsWhole) :
    wordAt (F := F) M (hM.unread limit) = 14745#32 := hM.readAt_unread limit _ _

/-- What the body needs and leaves at a grid point: it reads the number of frozen rows and the block `x`, finds the count's
    memref at contents satisfying `P`, and leaves the frozen block and the count. -/
def BodyRuns (i : grid0.Coords) (P : Vec F S1 .i32 → Prop) : Prop :=
  ∀ (c : Dev nD) (a1 : Memref sig .tc .smem S1 .i32) (h1 : a1.IsWhole) (a2 : Memref sig .tc .vmem S1024x1024 .f32) (h2 : a2.IsWhole)
    (a3 : Memref sig .tc .vmem S1024x1024 .f32) (h3 : a3.IsWhole) (a4 : Memref sig .tc .smem S1 .i32) (h4 : a4.IsWhole)
    (x : Vec F S1024x1024 .f32) (d : Vec F S1 .i32) (_ : P d) (E : Set ℕ) (K : PUnit → sProp 𝕄),
    iprop(owns (c : Thread nD τ) a1 fullShare limit ∗ owns (c : Thread nD τ) a2 fullShare x
        ∗ (∃ d, owns (c : Thread nD τ) a3 fullShare d) ∗ owns (c : Thread nD τ) a4 fullShare d
        ∗ (iprop(owns (c : Thread nD τ) a1 fullShare limit ∗ owns (c : Thread nD τ) a2 fullShare x
            ∗ owns (c : Thread nD τ) a3 fullShare (frozenBlock (i 0).val x) ∗ owns (c : Thread nD τ) a4 fullShare limit) -∗ K ⟨⟩))
      ⊢ wp frame (wpE (defs₀ (F := F)) Variants.none c none) E (cc0__freeze_body i a1 h1 a2 h2 a3 h3 a4 h4) K

/-- A memref stored whole reads back as what was stored. -/
theorem read_stored {sp : Space} {s : Shape} {e : EltTy} (v : View sig .tc sp s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w :=
  (View.read_writes_eq_canon v f _ fun y => ⟨_, List.mem_singleton_self _, View.mem_set_unit_zero h inb y⟩).trans
    (View.canon_unit_zero h inb w)

/-- The offsets of a whole block are zero. -/
theorem offsets_zero : (![0, 0] : Fin S1024x1024.rank → ℕ) = fun _ => 0 := by decide

/-- The offset of the one-word array is zero. -/
theorem offset_zero : (![0] : Fin S1.rank → ℕ) = fun _ => 0 := by decide

/-- A whole block that holds `x` loads as `x`. -/
theorem block_read (M : Memref sig .tc .vmem S1024x1024 .f32) (hM : M.IsWhole) (x : Vec F S1024x1024 .f32) :
    M.view.readAt (Elt F) (Rect.unit (s := S1024x1024) ![0, 0] S1024x1024.size inb_S1024x1024_S1024x1024_0_0).toLoadRect (hM.unread x) = x := by
  rw [View.readAt_eq_ld, hM.read_unread]
  exact View.ld_unit_zero offsets_zero _ x

set_option maxHeartbeats 1000000 in
/-- The first block: the count is stored, whatever its memref held, and the block is zeros. -/
theorem run_first (i : grid0.Coords) (hi : (i 0).val = 0) : BodyRuns (F := F) i (fun _ => True) := by
  intro c a1 h1 a2 h2 a3 h3 a4 h4 x d hd E K
  have hw := wordAt_limit (F := F) a1 h1
  have hc0 : IsFirst i := by rw [isFirst_iff]; omega
  have hc1 : EndsBefore i (wordAt a1 (h1.unread (limit (F := F)))) := by rw [hw, endsBefore_iff]; omega
  have hc2 : ¬StartsAfter i (wordAt a1 (h1.unread (limit (F := F)))) := by rw [hw, startsAfter_iff]; omega
  have hc3 : ¬Splits i (wordAt a1 (h1.unread (limit (F := F)))) := by rw [hw, splits_iff]; omega
  simp only [cc0__freeze_body_eq_skeleton]; unfold cc0__freeze_body_skel
  unfold owns
  iintro ⟨⟨%f0, %hf0, H0⟩, ⟨%f1, %hf1, H1⟩, ⟨%d2, %f2, -, H2⟩, ⟨%f3, %hf3, H3⟩, Hk⟩
  obtain rfl := h1.eq_unread hf0; obtain rfl := h2.eq_unread hf1
  sl_exec (disch := first | sl_exact hc0 | sl_exact hc1 | sl_exact hc2 | sl_exact hc3)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    refine (read_stored _ _ offsets_zero _ _).trans ?_
    exact zeros_eq (by omega) x
  iexists _; isplitr; swap; · iexact H3
  ipureintro
  exact (read_stored _ _ offset_zero _ _).trans (funext fun _ => hw)

set_option maxHeartbeats 1000000 in
/-- A later block that ends before the last frozen row: the block is zeros. -/
theorem run_zeros (i : grid0.Coords) (hi : 0 < (i 0).val ∧ (i 0).val < 14) : BodyRuns (F := F) i (fun d => d = limit) := by
  intro c a1 h1 a2 h2 a3 h3 a4 h4 x d hd E K
  have hw := wordAt_limit (F := F) a1 h1
  have hc0 : ¬IsFirst i := by rw [isFirst_iff]; omega
  have hc1 : EndsBefore i (wordAt a1 (h1.unread (limit (F := F)))) := by rw [hw, endsBefore_iff]; omega
  have hc2 : ¬StartsAfter i (wordAt a1 (h1.unread (limit (F := F)))) := by rw [hw, startsAfter_iff]; omega
  have hc3 : ¬Splits i (wordAt a1 (h1.unread (limit (F := F)))) := by rw [hw, splits_iff]; omega
  simp only [cc0__freeze_body_eq_skeleton]; unfold cc0__freeze_body_skel
  unfold owns
  iintro ⟨⟨%f0, %hf0, H0⟩, ⟨%f1, %hf1, H1⟩, ⟨%d2, %f2, -, H2⟩, ⟨%f3, %hf3, H3⟩, Hk⟩
  obtain rfl := h1.eq_unread hf0; obtain rfl := h2.eq_unread hf1
  sl_exec (disch := first | sl_exact hc0 | sl_exact hc1 | sl_exact hc2 | sl_exact hc3)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    refine (read_stored _ _ offsets_zero _ _).trans ?_
    exact zeros_eq (by omega) x
  iexists _; isplitr; swap; · iexact H3
  ipureintro
  exact hf3.trans hd

set_option maxHeartbeats 1000000 in
/-- The block that the last frozen row splits: each row is zero or kept. -/
theorem run_mixed (i : grid0.Coords) (hi : (i 0).val = 14) : BodyRuns (F := F) i (fun d => d = limit) := by
  intro c a1 h1 a2 h2 a3 h3 a4 h4 x d hd E K
  have hw := wordAt_limit (F := F) a1 h1
  have hc0 : ¬IsFirst i := by rw [isFirst_iff]; omega
  have hc1 : ¬EndsBefore i (wordAt a1 (h1.unread (limit (F := F)))) := by rw [hw, endsBefore_iff]; omega
  have hc2 : ¬StartsAfter i (wordAt a1 (h1.unread (limit (F := F)))) := by rw [hw, startsAfter_iff]; omega
  have hc3 : Splits i (wordAt a1 (h1.unread (limit (F := F)))) := by rw [hw, splits_iff]; omega
  simp only [cc0__freeze_body_eq_skeleton]; unfold cc0__freeze_body_skel
  unfold owns
  iintro ⟨⟨%f0, %hf0, H0⟩, ⟨%f1, %hf1, H1⟩, ⟨%d2, %f2, -, H2⟩, ⟨%f3, %hf3, H3⟩, Hk⟩
  obtain rfl := h1.eq_unread hf0; obtain rfl := h2.eq_unread hf1
  sl_exec (disch := first | sl_exact hc0 | sl_exact hc1 | sl_exact hc2 | sl_exact hc3)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    refine (read_stored _ _ offsets_zero _ _).trans ?_
    exact (congrArg₂ (k0_pay3 i) hw (block_read a2 h2 x)).trans (mixed_eq i x)
  iexists _; isplitr; swap; · iexact H3
  ipureintro
  exact hf3.trans hd

set_option maxHeartbeats 1000000 in
/-- The last block: every row is kept. -/
theorem run_copy (i : grid0.Coords) (hi : 14 < (i 0).val) : BodyRuns (F := F) i (fun d => d = limit) := by
  intro c a1 h1 a2 h2 a3 h3 a4 h4 x d hd E K
  have hw := wordAt_limit (F := F) a1 h1
  have hlt : (i 0).val < 16 := (i 0).isLt
  have hc0 : ¬IsFirst i := by rw [isFirst_iff]; omega
  have hc1 : ¬EndsBefore i (wordAt a1 (h1.unread (limit (F := F)))) := by rw [hw, endsBefore_iff]; omega
  have hc2 : StartsAfter i (wordAt a1 (h1.unread (limit (F := F)))) := by rw [hw, startsAfter_iff]; omega
  have hc3 : ¬Splits i (wordAt a1 (h1.unread (limit (F := F)))) := by rw [hw, splits_iff]; omega
  simp only [cc0__freeze_body_eq_skeleton]; unfold cc0__freeze_body_skel
  unfold owns
  iintro ⟨⟨%f0, %hf0, H0⟩, ⟨%f1, %hf1, H1⟩, ⟨%d2, %f2, -, H2⟩, ⟨%f3, %hf3, H3⟩, Hk⟩
  obtain rfl := h1.eq_unread hf0; obtain rfl := h2.eq_unread hf1
  sl_exec (disch := first | sl_exact hc0 | sl_exact hc1 | sl_exact hc2 | sl_exact hc3)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    refine (read_stored _ _ offsets_zero _ _).trans ?_
    exact (congrArg k0_pay2 (block_read a2 h2 x)).trans (copy_eq hi x)
  iexists _; isplitr; swap; · iexact H3
  ipureintro
  exact hf3.trans hd

end Cert.KernelIdeal.Freeze

end
-- ==== Proof.Freeze.Data.lean ====
/- The pipeline's proof data: what each window's memref holds after the body at each point of the grid, the body's
   triple at every point, and the whole run that follows. -/
module

public import proofs.«01_k».proof.Proof.Freeze.Runs
public import Idealize.ShloMosaic.Lib.Pipeline.TableIdle
public import Idealize.ShloMosaic.Lib.Claim
public import Idealize.ShloMosaic.Lib.StableHlo.Run

@[expose] public section

set_option maxRecDepth 16384

noncomputable section

namespace Cert.KernelIdeal.Freeze

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The array of the number of frozen rows, as the region finds it. -/
theorem V_limit (c : Dev nD) : V m c main_v1 = limit (F := F) := by
  unfold_abbrev_sides
  simp only [List.flatten_cons, List.flatten_nil, List.append_nil]
  after_results
  rfl

/-- At every point the first window's block is the number of frozen rows. -/
theorem iblk_limit (c : Dev nD) (t : Fin cfg0.N) : iblk m c 0 t = limit (F := F) := by
  funext y
  exact congrFun (V_limit m c) _

/-- The grid coordinate of point `t` is `t`. -/
theorem coord (t : Fin cfg0.N) : (grid0.coords t 0).val = t.val := by
  have e : (grid0.coords t 0).val = t.val / 1 % 16 := Pipeline.Grid.coords_val t 0 (by decide) rfl
  have h : t.val < 16 := Nat.lt_of_lt_of_eq t.isLt N_0
  omega

/-! ## The proof data -/

/-- The proof data on core `c`: the arrays as the region finds them; after the body at a point the inputs' memrefs hold
    their blocks, the third window's the frozen block, and the fourth's the number of frozen rows; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => frozenBlock t.val (iblk m c 1 t)
    | ⟨3, _⟩ => limit
  Φ _ := Pipeline.ΦA spec0 c
  q _ := fullShare
  owed _ := 0

/-- The proof data's arrays are those that the region finds. -/
theorem A_eq (c : Dev nD) (w : Fin cfg0.W) : (dats m 0 c).A w = V m c (Pipeline.arrRef spec0 w) := by
  dsimp only [dats]

/-- After the body the first input's memref holds its block. -/
theorem after_0 (c : Dev nD) (t : Fin cfg0.N) : (dats m 0 c).after 0 t = iblk m c 0 t := by dsimp only [dats]
/-- After the body the second input's memref holds its block. -/
theorem after_1 (c : Dev nD) (t : Fin cfg0.N) : (dats m 0 c).after 1 t = iblk m c 1 t := by dsimp only [dats]
/-- After the body the block of the result holds the frozen block. -/
theorem after_2 (c : Dev nD) (t : Fin cfg0.N) : (dats m 0 c).after 2 t = frozenBlock t.val (iblk m c 1 t) := by dsimp only [dats]
/-- After the body the count's memref holds the number of frozen rows. -/
theorem after_3 (c : Dev nD) (t : Fin cfg0.N) : (dats m 0 c).after 3 t = limit := by dsimp only [dats]

/-- Before the body the first input's memref holds the number of frozen rows. -/
theorem before_0 (c : Dev nD) (t : Fin cfg0.N) (d) : (dats m 0 c).before 0 t d = limit :=
  (before0_0_of m (dats m 0 c) (A_eq m c 0) (after_0 m c) t d).trans (iblk_limit m c t)
/-- Before the body the second input's memref holds its block. -/
theorem before_1 (c : Dev nD) (t : Fin cfg0.N) (d) : (dats m 0 c).before 1 t d = iblk m c 1 t :=
  before0_1_of m (dats m 0 c) (A_eq m c 1) (after_1 m c) t d
/-- After the first point the count's memref never holds leftover contents. -/
theorem fresh_3 : ∀ t : Fin grid0.N, t.val ≠ 0 → cfg0.fresh 3 t.val = false := by decide +kernel

/-- Before the body at a later point the count's memref holds the number of frozen rows, stored at the first point. -/
theorem before_3 (c : Dev nD) (t : Fin cfg0.N) (ht : t.val ≠ 0) (d) : (dats m 0 c).before 3 t d = limit := by
  rw [(dats m 0 c).before_out_traj 3 rfl (fun _ _ => rfl)
    (fun t _ _ _ => (after_3 m c t).trans (after_3 m c _).symm) t.val t rfl d, fresh_3 t ht, if_neg Bool.false_ne_true, after_3]

/-- What the count's memref is left at after point `t`: at a point that stores no count and does not write it back, as
    the body found it; at any other, at the number of frozen rows. -/
def countLeft (c : Dev nD) (t : Fin cfg0.N) : sProp 𝕄 :=
  match cfg0.idle 3 (grid0.coords t) with
  | true =>
    match (cfg0.win 3).flush t with
    | false => iprop(∃ d, owns (c : Thread nD τ) (st0_3 t) fullShare ((dats m 0 c).before 3 t d))
    | true => owns (c : Thread nD τ) (st0_3 t) fullShare ((dats m 0 c).after 3 t)
  | false => owns (c : Thread nD τ) (st0_3 t) fullShare ((dats m 0 c).after 3 t)

/-- A memref that holds the number of frozen rows is as `countLeft` asks, at every point. -/
theorem countLeft_of (c : Dev nD) (t : Fin cfg0.N) :
    (owns (c : Thread nD τ) (st0_3 t) fullShare (limit (F := F)) : sProp 𝕄) ⊢ countLeft m c t := by
  have hi : cfg0.idle 3 (grid0.coords t) = true → t.val ≠ 0 := fun h h0 => by
    have hf : IsFirst (grid0.coords t) := (isFirst_iff _).mpr ((coord t).trans h0)
    have h' : (!(k0_cond1 (grid0.coords t) == 1#1)) = true := h
    rw [hf] at h'
    exact absurd h' (by decide)
  unfold countLeft
  cases hidle : cfg0.idle 3 (grid0.coords t)
  · dsimp only; rw [after_3]
  · cases hflush : (cfg0.win 3).flush t
    · dsimp only
      iintro H
      iexists limit
      rw [before_3 m c t (hi hidle)]
      iexact H
    · dsimp only; rw [after_3]

/-! ## The body at every point -/

/-- The body at point `t` runs in one of its four cases. -/
theorem runs_at (t : Fin cfg0.N) : BodyRuns (F := F) (grid0.coords t) (fun d => t.val ≠ 0 → d = limit) := by
  have hN : t.val < 16 := Nat.lt_of_lt_of_eq t.isLt N_0
  have hc := coord t
  intro c a1 h1 a2 h2 a3 h3 a4 h4 x d hd
  by_cases h0 : t.val = 0
  · exact run_first _ (hc.trans h0) c a1 h1 a2 h2 a3 h3 a4 h4 x d trivial
  · by_cases hz : t.val < 14
    · exact run_zeros _ (by omega) c a1 h1 a2 h2 a3 h3 a4 h4 x d (hd h0)
    · by_cases he : t.val = 14
      · exact run_mixed _ (hc.trans he) c a1 h1 a2 h2 a3 h3 a4 h4 x d (hd h0)
      · exact run_copy _ (by omega) c a1 h1 a2 h2 a3 h3 a4 h4 x d (hd h0)

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns at point `t`, window by window. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ countLeft m c t)

set_option maxHeartbeats 800000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  have hrun := runs_at (F := F) t
  rw [BodyRuns, coord t] at hrun
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, iblk_limit]
  iintro ⟨HΦ, Ho, ⟨%d0, H0⟩, ⟨%d1, H1⟩, ⟨%d2, H2⟩, ⟨%d3, H3⟩⟩
  iapply (hrun c _ _ _ _ _ _ _ _ (iblk m c 1 t) ((dats m 0 c).before 3 t d3) (fun ht => before_3 m c t ht d3) Set.univ _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iapply (countLeft_of m c t); iexact H3

/-- The body table's row at point `t` is the body at that point's memrefs. -/
theorem defs₀_row (t : Fin cfg0.N) :
    defs₀ (F := F) .tc cfg0.body (cfg0.bodyArgs t (cfg0.slots t)) = bodyAt0 t := by
  unfold defs₀; rw [Defs.onTc_tc]

/-- The body meets the proof data at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The buffers at the end of the run, those that no window holds: the last host lines' results. -/
abbrev atEnd := Pipeline.afterTail₀ cfgs (dats m) 0 (V0 m) [hostOps1]

set_option backward.isDefEq.respectTransparency.types false in
/-- Every run ends with the arrays at what the proof data computes, the other buffers at what the last host lines leave,
    and every semaphore at zero. -/
theorem run_quiescent : θ_run defs (onTc (τ := τ) (main (F := F))) (s₀ m ρ)
    (fun r => (Pipeline.FramePost cfgs (dats m) 0 (atEnd m)) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run leaves the argument as it was and every semaphore at zero. -/
theorem argument_kept : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Freeze

end
-- ==== Proof.Freeze.Printed.lean ====
/- The kernel over its float words: it is the ideal kernel's program, line for line, so what is proved of the one over
   any numbers holds of the other. -/
module

public import proofs.«01_k».proof.Proof.Gen.Kernel
public import proofs.«01_k».proof.Proof.Freeze.Data

@[expose] public section

set_option maxRecDepth 16384

noncomputable section

namespace Cert.Kernel.Freeze

open Idealize.ShloMosaic Idealize.ShloMosaic.TcCoe Idealize.SL.Sem

variable {F : FTy → Type} [FloatOps F]

/-- The two programs' kernels have the same body at every point. -/
theorem bodies_eq : (defs₀ : Defs nD τ sig (Elt F) Λ₀) = Cert.KernelIdeal.defs₀ := by
  unfold Cert.Kernel.defs₀ Cert.KernelIdeal.defs₀
  refine congrArg Defs.onTc (funext fun l => funext fun a => ?_)
  match l, a with
  | 0, (_, _) => rfl

variable (m : (ℓ : Loc nD τ sig) → Buf (Elt F) ℓ) (ρ : Dev nD → PrngReg)

/-- Every run of the kernel leaves the argument as it was and every semaphore at zero. -/
theorem argument_kept : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) := by
  unfold defs
  rw [bodies_eq]
  exact Cert.KernelIdeal.Freeze.argument_kept m ρ

end Cert.Kernel.Freeze

end
-- ==== Proof.Freeze.Spec.lean ====
/- What the program computes, as plain functions: the array of tokens with its first 14745 rows set to zero, the rows
   counted through the first two axes. -/
module

public import Idealize.ShloMosaic.Lib.Pipeline.Value

@[expose] public section

noncomputable section

namespace Cert.Freeze

open Idealize.ShloMosaic

variable {F : FTy → Type} [FloatOps F]

/-- The tokens, an array of 4 by 4096 rows of 1024 entries. -/
abbrev Tokens : Shape := ⟨3, ![4, 4096, 1024]⟩

/-- The tokens as 16384 rows of 1024 entries. -/
abbrev Rows : Shape := ⟨2, ![16384, 1024]⟩

/-- The tokens with the first 14745 rows set to zero. -/
def frozen (x : Vec F Tokens .f32) : Vec F Tokens .f32 :=
  fun i => if (i 0).val * 4096 + (i 1).val < 14745 then Scalar.ofBits .f32 0x00000000#32 else x i

/-- The rows with the first 14745 set to zero. -/
def frozenRows (x : Vec F Rows .f32) : Vec F Rows .f32 :=
  fun j => if (j 0).val < 14745 then Scalar.ofBits .f32 0x00000000#32 else x j

/-- Freezing the rows of the tokens listed in order is freezing the tokens. -/
theorem shapeCast_frozenRows (x : Vec F Tokens .f32) (h : Tokens.ShapeCasts Rows) (h' : Rows.ShapeCasts Tokens) :
    shapeCast Tokens (frozenRows (shapeCast Rows x h)) h' = frozen x := by
  funext i
  have h0 : (i 0).val < 4 := (i 0).isLt
  have h1 : (i 1).val < 4096 := (i 1).isLt
  have h2 : (i 2).val < 1024 := (i 2).isLt
  let k : Rows.Idx := fun a => match a with
    | ⟨0, _⟩ => ⟨(i 0).val * 4096 + (i 1).val, by show _ < 16384; omega⟩
    | ⟨1, _⟩ => ⟨(i 2).val, h2⟩
  have hk : (Rows.rowMajor k).val = (Tokens.rowMajor i).val :=
    (Shape.rowMajor_val_two k).trans (Shape.rowMajor_val_three i).symm
  rw [shapeCast_apply _ h' i k hk]
  unfold frozenRows frozen
  rw [shapeCast_apply x h k i hk.symm]

end Cert.Freeze

end
-- ==== Proof.Freeze.Arrays.lean ====
/- What the kernel's arrays hold when it has run: the result's rows frozen, the count, and both as the program returns
   them. -/
module

public import proofs.«01_k».proof.Proof.Freeze.Data
public import proofs.«01_k».proof.Proof.Freeze.Spec
public import Idealize.ShloMosaic.Lib.Pipeline.ValueKit

@[expose] public section

set_option maxRecDepth 16384

noncomputable section

namespace Cert.KernelIdeal.Freeze

open Idealize.ShloMosaic Idealize.ShloMosaic.TcCoe Idealize.SL.Sem
open Cert.KernelIdeal.Gen Cert.Freeze

variable {F : FTy → Type} [FloatOps F]

variable (m : (ℓ : Loc nD τ sig) → Buf (Elt F) ℓ) (ρ : Dev nD → PrngReg)

/-- The block of the result at point `t` is block `t`. -/
theorem index_result : ∀ t : Fin grid0.N, win0_2.index t = ![t.val, 0] := by decide +kernel

/-- The block of the tokens at point `t` is block `t`, or block 14 if that is later. -/
theorem index_tokens : ∀ t : Fin grid0.N, win0_1.index t = ![max t.val 14, 0] := by decide +kernel

/-- The rows that the region finds are the tokens' rows in order. -/
theorem V_rows (c : Dev nD) :
    V m c main_v0 = shapeCast S16384x1024 (m ((c : Thread nD τ).loc main_arg0)) shapeCasts_S4x4096x1024_S16384x1024 := by
  unfold_abbrev_sides
  simp only [List.flatten_cons, List.flatten_nil, List.append_nil]
  after_results
  rfl

/-- The result's array ends with its first 14745 rows zero and the others as the region finds them. -/
theorem rows_at_end (c : Dev nD) : (dats m 0 c).arrAt 2 cfg0.N = frozenRows (F := F) (V m c main_v0) := by
  refine (dats m 0 c).arrAt_eq_of_covers 2 _ (by decide +kernel) fun t hf y => ?_
  blk_simp
  rw [after_2]
  have hr : ((win0_2.blk t).view.emb y 0).val = t.val * 1024 + (y 0).val := by
    refine (Pipeline.Window.rect_emb_val win0_2 t y 0).trans ?_
    rw [index_result]
    rfl
  unfold frozenBlock frozenRows
  rw [hr]
  split
  · rfl
  · rename_i h
    have ht : win0_1.index t = win0_2.index t := by
      rw [index_tokens, index_result]
      have hy : (y 0).val < 1024 := (y 0).isLt
      rw [show max t.val 14 = t.val by omega]
    blk_simp [iblk]
    refine congrArg (V m c main_v0) (funext fun a => Fin.ext ?_)
    refine (Pipeline.Window.rect_emb_val win0_1 t y a).trans (Eq.trans ?_ (Pipeline.Window.rect_emb_val win0_2 t y a).symm)
    rw [ht]

/-- The count's array ends holding 14745. -/
theorem count_at_end (c : Dev nD) : (dats m 0 c).arrAt 3 cfg0.N = limit (F := F) := by
  refine (dats m 0 c).arrAt_eq_of_after_last 3 t0_15 (by decide +kernel) _ fun j => ?_
  blk_simp
  rw [after_3]

/-- The windows' arrays are distinct. -/
theorem arrays_distinct : Function.Injective (Pipeline.arrRef spec0) := by decide

/-- The result as the program returns it is the tokens frozen. -/
theorem atEnd_result (c : Dev nD) : atEnd m c main_v3 = frozen (F := F) (m ((c : Thread nD τ).loc main_arg0)) := by
  unfold_abbrev_sides
  unfold Pipeline.afterTail₀
  simp only [List.flatten_cons, List.flatten_nil, List.append_nil]
  after_results
  have e := Pipeline.withArrays_arr spec0 arrays_distinct c (V0 m c) (fun w => (dats m 0 c).arrAt w cfg0.N) 2
  refine (congrArg (fun x => shapeCast S4x4096x1024 x shapeCasts_S16384x1024_S4x4096x1024) (e.trans ((rows_at_end m c).trans (congrArg frozenRows (V_rows m c))))).trans ?_
  exact shapeCast_frozenRows _ _ _

/-- The count as the program returns it is 14745. -/
theorem atEnd_count (c : Dev nD) : atEnd m c main_v4 = (fun _ => (14745#32 : BitVec 32)) := by
  unfold_abbrev_sides
  unfold Pipeline.afterTail₀
  simp only [List.flatten_cons, List.flatten_nil, List.append_nil]
  after_results
  have e := Pipeline.withArrays_arr spec0 arrays_distinct c (V0 m c) (fun w => (dats m 0 c).arrAt w cfg0.N) 3
  exact congrArg (fun x => shapeCast S_ x shapeCasts_S1_S_) (e.trans (count_at_end m c))

/-- Every run of the kernel ends with the tokens frozen, the count 14745 and the argument as it was. -/
theorem run_values : θ_run defs (onTc (τ := τ) (main (F := F))) ⟨m, fun _ => 0, ρ⟩ (fun r => ∀ c : Dev nD,
      r.2.mem ((c.tc : Thread nD τ).loc main_v3) = frozen (m ((c.tc : Thread nD τ).loc main_arg0))
      ∧ r.2.mem ((c.tc : Thread nD τ).loc main_v4) = (fun _ => (14745#32 : BitVec 32))
      ∧ r.2.mem ((c.tc : Thread nD τ).loc main_arg0) = m ((c.tc : Thread nD τ).loc main_arg0)) :=
  (θ_run defs _ _).mono (fun _ h c =>
    ⟨((h.1.1 c).2 main_v3 (Pipeline.mem_restRefs_of main_v3 (by decide) (by decide))).trans (atEnd_result m c),
      ((h.1.1 c).2 main_v4 (Pipeline.mem_restRefs_of main_v4 (by decide) (by decide))).trans (atEnd_count m c), h.2.1 c⟩)
    (θ_run_and (run_quiescent m ρ) (argument_kept m ρ))

end Cert.KernelIdeal.Freeze

end
-- ==== Proof.Freeze.Reference.lean ====
/- What the reference computes: the same frozen tokens, and the same count. -/
module

public import proofs.«01_k».proof.Proof.Freeze.Spec
public import proofs.«01_k».proof.Proof.Gen.ReferenceIdeal.Run
public import Idealize.ShloMosaic.Lib.WordCmp
public import Idealize.ShloMosaic.Lib.IndicatorCount
public import Idealize.ShloMosaic.Lib.ValueIdxCore
public import Idealize.ShloMosaic.Lib.Claim
public import Idealize.ShloMosaic.Lib.Quiescent
public import Mathlib.Data.Fintype.Fin

@[expose] public section

noncomputable section

namespace Cert.ReferenceIdeal.Freeze

open Idealize.ShloMosaic Idealize.ShloMosaic.TcCoe Idealize.SL.Sem Cert.ReferenceIdeal Cert.ReferenceIdeal.Gen Cert.Freeze

variable {F : FTy → Type} [FloatOps F]

/-- The reference's mask of the rows: 1 at the rows below row 14745. -/
abbrev mask : IVec S4x4096 1 :=
  shapeCast S4x4096 (cmpi .slt (iotaInDim S16384 32 0) (broadcastInDim S16384 ![] bcast_S_S16384 (constantI S_ 32 14745#32))) shapeCasts_S16384_S4x4096

/-- The rows are 16384 in number. -/
theorem numel_rows : S4x4096.numel = 16384 := by decide

/-- The mask at a row is 1 when the row's number is below 14745. -/
theorem mask_apply (j : S4x4096.Idx) : mask j = BitVec.ofBool (decide ((S4x4096.rowMajor j).val < 14745)) := by
  have hb : (S4x4096.rowMajor j).val < 16384 := (S4x4096.rowMajor j).isLt.trans_eq numel_rows
  let k : S16384.Idx := fun _ => ⟨(S4x4096.rowMajor j).val, by simpa only [Fin.isValue, S16384, Matrix.cons_val_fin_one] using hb⟩
  have hk : (S16384.rowMajor k).val = (S4x4096.rowMajor j).val := Shape.rowMajor_val_one k
  rw [mask, shapeCast_apply _ shapeCasts_S16384_S4x4096 j k hk, WordCmp.cmpi_at, WordCmp.iotaInDim_at]
  exact WordCmp.cmpi_slt_ofNat (Nat.lt_trans hb (by decide)) (by decide)

/-- The reference's choice, entry by entry, between zero and the token is the tokens frozen. -/
theorem select_eq (x : Vec F S4x4096x1024 .f32) :
    select (broadcastInDim S4x4096x1024 ![0, 1, 2] bcast_S4x4096x1_S4x4096x1024_0_1_2
        (broadcastInDim S4x4096x1 ![0, 1] bcast_S4x4096_S4x4096x1_0_1 mask))
      (broadcastInDim S4x4096x1024 ![] bcast_S_S4x4096x1024 (constant S_ .f32 0x00000000#32)) x = frozen x := by
  funext i
  let j : S4x4096.Idx := fun a => match a with
    | ⟨0, _⟩ => i 0
    | ⟨1, _⟩ => i 1
  let k : S4x4096x1.Idx := fun a => match a with
    | ⟨0, _⟩ => i 0
    | ⟨1, _⟩ => i 1
    | ⟨2, _⟩ => ⟨0, Nat.one_pos⟩
  have hk : ∀ a : Fin 3, (k a).val = if S4x4096x1.size a = 1 then 0 else (i (![0, 1, 2] a)).val := by
    intro a
    match a with
    | ⟨0, _⟩ => rfl
    | ⟨1, _⟩ => rfl
    | ⟨2, _⟩ => rfl
  have hj : ∀ a : Fin 2, (j a).val = if S4x4096.size a = 1 then 0 else (k (![0, 1] a)).val := by
    intro a
    match a with
    | ⟨0, _⟩ => rfl
    | ⟨1, _⟩ => rfl
  have e : broadcastInDim S4x4096x1024 ![0, 1, 2] bcast_S4x4096x1_S4x4096x1024_0_1_2
      (broadcastInDim S4x4096x1 ![0, 1] bcast_S4x4096_S4x4096x1_0_1 mask) i = mask j := by
    rw [broadcastInDim_apply _ _ _ i k hk, broadcastInDim_apply _ _ _ k j hj]
  rw [ValueIdx.select_apply, e, mask_apply, WordCmp.select_decide, Shape.rowMajor_val_two]
  rfl

/-- The rows below row 14745 are 14745 in number. -/
theorem card_mask : (Finset.univ.filter fun j : S4x4096.Idx => mask j = 1#1).card = 14745 := by
  have h : (Finset.univ.filter fun j : S4x4096.Idx => mask j = 1#1)
      = (Finset.univ.filter fun n : Fin S4x4096.numel => n.val < 14745).map S4x4096.rowMajor.symm.toEmbedding := by
    ext j
    simp only [Finset.mem_filter, Finset.mem_univ, true_and, mask_apply, WordCmp.ofBool_decide_eq_one_iff, Finset.mem_map_equiv,
      Equiv.symm_symm]
  rw [h, Finset.card_map]
  rw [numel_rows, Fin.card_filter_val_lt]
  rfl

/-- The reference's count is 14745. -/
theorem count_eq :
    Host.reduce IntOp.addi (extui 32 mask natLt_1_32) (constantI S_ 32 0#32) reducesTo_S4x4096_S_d0_1 h_S_
      = fun _ => (14745#32 : BitVec 32) := by
  funext j
  rw [Host.reduce_eq_fold]
  have hu : (Finset.univ.filter fun i => reducesTo_S4x4096_S_d0_1.drop i = j) = Finset.univ :=
    Finset.filter_true_of_mem fun i _ => funext fun a => a.elim0
  rw [hu]
  exact (IndicatorCount.fold_addi_setWidth_eq_card mask Finset.univ).trans (congrArg (BitVec.ofNat 32) card_mask)

variable (m : (ℓ : Loc nD τ sig) → Buf (Elt F) ℓ) (ρ : Dev nD → PrngReg)

/-- Every run of the reference ends with the tokens frozen, the count 14745 and the argument as it was. -/
theorem run_values : θ_run defs (onTc (τ := τ) (main (F := F))) ⟨m, fun _ => 0, ρ⟩ (fun r => ∀ c : Dev nD,
      r.2.mem ((c.tc : Thread nD τ).loc main_v5) = frozen (m ((c.tc : Thread nD τ).loc main_arg0))
      ∧ r.2.mem ((c.tc : Thread nD τ).loc main_v7) = (fun _ => (14745#32 : BitVec 32))
      ∧ r.2.mem ((c.tc : Thread nD τ).loc main_arg0) = m ((c.tc : Thread nD τ).loc main_arg0)) :=
  (θ_run defs _ _).mono (fun _ h c => ⟨(h c).1.trans (select_eq _), (h c).2.1.trans count_eq, (h c).2.2⟩) (Value.run m ρ)

/-- Every run of the reference leaves the argument as it was and every semaphore at zero. -/
theorem argument_kept : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2.2, sem_eq_zero_of_no_sems (by decide) r.2⟩) (run_values m ρ)

end Cert.ReferenceIdeal.Freeze

end
-- ==== Proof.lean ====
/- The claims about the kernel and the reference: the three programs keep their argument, the kernel's two readings
   keep the same operations, and over any values the kernel returns what the reference returns. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Freeze.Printed
public import proofs.«01_k».proof.Proof.Freeze.Arrays
public import proofs.«01_k».proof.Proof.Freeze.Reference
public import Idealize.ShloMosaic.Adequacy
public import Idealize.ShloMosaic.Init

@[expose] public section

noncomputable section

namespace Cert.Proof

open Idealize.ShloMosaic Idealize.SL.Sem Cert.Kernel

/-- The kernel and the reference leave the argument as it was and every semaphore at zero, and from equal arguments the
    kernel's two results are the reference's two results. -/
theorem claim : Cert.Claim := ⟨Cert.Kernel.Gen.facts, Cert.KernelIdeal.Gen.facts, Cert.ReferenceIdeal.Gen.facts,
  fun m ρ _ => Cert.Kernel.Freeze.argument_kept m ρ,
  fun m ρ _ => Cert.KernelIdeal.Freeze.argument_kept m ρ,
  fun m ρ _ => Cert.ReferenceIdeal.Freeze.argument_kept m ρ,
  trivial,
  fun m ρ m' ρ' _ hm => ⟨fun c => Cert.Freeze.frozen (m (c, Proc.tc.devRef Cert.KernelIdeal.main_arg0)),
    fun _ _ => (14745#32 : BitVec 32), Cert.KernelIdeal.Freeze.run_values m ρ,
    (θ_run Cert.ReferenceIdeal.defs _ _).mono
      (fun _ h c => ⟨(h c).1.trans (congrArg Cert.Freeze.frozen (hm c)), (h c).2⟩)
      (Cert.ReferenceIdeal.Freeze.run_values m' ρ')⟩⟩

end Cert.Proof

end
